-- ==== Defs.lean ====
def Pre_Kernel [hPre_starts : Cert.Pre_starts.Facts] (m : (ℓ : Loc Cert.Kernel.nD Cert.Kernel.τ Cert.Kernel.sig) → Buf (Elt Bits) ℓ) : Prop :=
  ∀ c : Dev Cert.Kernel.nD,
    (Cert.Pre_starts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Kernel_runs [hPre_runs : Cert.Pre_runs.Facts] (m : (ℓ : Loc Cert.Kernel.nD Cert.Kernel.τ Cert.Kernel.sig) → Buf (Elt Bits) ℓ) : Prop :=
  ∀ c : Dev Cert.Kernel.nD,
    (Cert.Pre_runs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_starts : Cert.Pre_starts.Facts] (m : (ℓ : Loc Cert.KernelIdeal.nD Cert.KernelIdeal.τ Cert.KernelIdeal.sig) → Buf (Elt Ideal) ℓ) : Prop :=
  ∀ c : Dev Cert.KernelIdeal.nD,
    (Cert.Pre_starts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_runs [hPre_runs : Cert.Pre_runs.Facts] (m : (ℓ : Loc Cert.KernelIdeal.nD Cert.KernelIdeal.τ Cert.KernelIdeal.sig) → Buf (Elt Ideal) ℓ) : Prop :=
  ∀ c : Dev Cert.KernelIdeal.nD,
    (Cert.Pre_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_runs [hPre_runs : Cert.Pre_runs.Facts] (m : (ℓ : Loc Cert.Reference.nD Cert.Reference.τ Cert.Reference.sig) → Buf (Elt Bits) ℓ) : Prop :=
  ∀ c : Dev Cert.Reference.nD,
    (Cert.Pre_runs.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_runs [hPre_runs : Cert.Pre_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_starts : Cert.Pre_starts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_runs [hKernel : Cert.Kernel.Facts] [hPre_runs : Cert.Pre_runs.Facts] : Prop :=
  ∀ (m : (ℓ : Loc Cert.Kernel.nD Cert.Kernel.τ Cert.Kernel.sig) → Buf (Elt Bits) ℓ) (g : Dev Cert.Kernel.nD → PrngReg), Pre_Kernel_runs m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_starts : Cert.Pre_starts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_runs [hKernelIdeal : Cert.KernelIdeal.Facts] [hPre_runs : Cert.Pre_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_runs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_runs [hReference : Cert.Reference.Facts] [hPre_runs : Cert.Pre_runs.Facts] : Prop :=
  ∀ (m : (ℓ : Loc Cert.Reference.nD Cert.Reference.τ Cert.Reference.sig) → Buf (Elt Bits) ℓ) (g : Dev Cert.Reference.nD → PrngReg), Pre_Reference_runs m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_runs [hReferenceIdeal : Cert.ReferenceIdeal.Facts] [hPre_runs : Cert.Pre_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_runs [hKernelIdeal : Cert.KernelIdeal.Facts] [hReferenceIdeal : Cert.ReferenceIdeal.Facts] [hPre_runs : Cert.Pre_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_runs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_runs [hKernel : Cert.Kernel.Facts] [hReference : Cert.Reference.Facts] [hPre_runs : Cert.Pre_runs.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_runs m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReference : Cert.Reference.Facts) (hReferenceIdeal : Cert.ReferenceIdeal.Facts) (hPre_starts : Cert.Pre_starts.Facts) (hPre_runs : Cert.Pre_runs.Facts),
    quiescent_Kernel (hKernel := hKernel) (hPre_starts := hPre_starts)
    ∧ quiescent_Kernel_pre_runs (hKernel := hKernel) (hPre_runs := hPre_runs)
    ∧ quiescent_KernelIdeal (hKernelIdeal := hKernelIdeal) (hPre_starts := hPre_starts)
    ∧ quiescent_KernelIdeal_pre_runs (hKernelIdeal := hKernelIdeal) (hPre_runs := hPre_runs)
    ∧ quiescent_Reference (hReference := hReference)
    ∧ quiescent_Reference_pre_runs (hReference := hReference) (hPre_runs := hPre_runs)
    ∧ quiescent_ReferenceIdeal (hReferenceIdeal := hReferenceIdeal)
    ∧ quiescent_ReferenceIdeal_pre_runs (hReferenceIdeal := hReferenceIdeal) (hPre_runs := hPre_runs)
    ∧ preserves_Kernel_KernelIdeal
    ∧ algebraic_KernelIdeal_ReferenceIdeal_pre_runs (hKernelIdeal := hKernelIdeal) (hReferenceIdeal := hReferenceIdeal) (hPre_runs := hPre_runs)
    ∧ bitexact_Kernel_Reference_pre_runs (hKernel := hKernel) (hReference := hReference) (hPre_runs := hPre_runs)
-- ==== Pre_runs.lean ====
abbrev S4x4096x1024 : Shape := ⟨3, ![4, 4096, 1024]⟩
abbrev S4096x64 : Shape := ⟨2, ![4096, 64]⟩
abbrev S4096 : Shape := ⟨1, ![4096]⟩
abbrev S2x2048 : Shape := ⟨2, ![2, 2048]⟩
abbrev S2x1 : Shape := ⟨2, ![2, 1]⟩
abbrev S_ : Shape := ⟨0, ![]⟩

class Facts : Prop where
  shapeCasts_S4096_S2x2048 : S4096.ShapeCasts S2x2048
  slices_S2x2048_S2x1_0_0 : S2x2048.Slices ![0, 0] S2x1
  bcast_S_S2x1 : S_.BroadcastsInDim S2x1 (![] : Fin 0 → Fin S2x1.rank)
  bcast_S2x1_S2x2048_0_1 : S2x1.BroadcastsInDim S2x2048 (![0, 1] : Fin 2 → Fin S2x2048.rank)

variable [Facts]

def fn {F : FTy → Type} [FloatOps F] (main_arg0 : FVec F S4x4096x1024 .f32) (main_arg1 : FVec F S4096x64 .f32) (main_arg2 : IVec S4096 32) : IVec S2x2048 1 :=
  let main_v0 : IVec S2x2048 32 := shapeCast S2x2048 main_arg2 shapeCasts_S4096_S2x2048
  let main_v1 : IVec S2x1 32 := (extractStridedSlice S2x1 ![0, 0] · slices_S2x2048_S2x1_0_0) main_v0
  let main_c : IVec S_ 32 := constantI S_ 32 0#32
  let main_v2 : IVec S2x1 32 := broadcastInDim S2x1 ![] bcast_S_S2x1 main_c
  let main_v3 : IVec S2x1 1 := cmpi .sge main_v1 main_v2
  let main_c_0 : IVec S_ 32 := constantI S_ 32 2048#32
  let main_v4 : IVec S2x1 32 := broadcastInDim S2x1 ![] bcast_S_S2x1 main_c_0
  let main_v5 : IVec S2x1 1 := cmpi .sle main_v1 main_v4
  let main_v6 : IVec S2x1 1 := andi main_v3 main_v5
  let main_c_1 : IVec S_ 32 := constantI S_ 32 8#32
  let main_v7 : IVec S2x1 32 := broadcastInDim S2x1 ![] bcast_S_S2x1 main_c_1
  let main_v8 : IVec S2x1 32 := Host.remsi main_v1 main_v7
  let main_c_2 : IVec S_ 32 := constantI S_ 32 0#32
  let main_v9 : IVec S2x1 32 := broadcastInDim S2x1 ![] bcast_S_S2x1 main_c_2
  let main_v10 : IVec S2x1 1 := cmpi .eq main_v8 main_v9
  let main_v11 : IVec S2x1 1 := andi main_v6 main_v10
  let main_v12 : IVec S2x2048 32 := iotaInDim S2x2048 32 1
  let main_v13 : IVec S2x2048 32 := broadcastInDim S2x2048 ![0, 1] bcast_S2x1_S2x2048_0_1 main_v1
  let main_v14 : IVec S2x2048 32 := addi main_v13 main_v12
  let main_v15 : IVec S2x2048 1 := cmpi .eq main_v0 main_v14
  let main_v16 : IVec S2x2048 1 := broadcastInDim S2x2048 ![0, 1] bcast_S2x1_S2x2048_0_1 main_v11
  let main_v17 : IVec S2x2048 1 := andi main_v16 main_v15
  main_v17
-- ==== Pre_starts.lean ====
abbrev S4x4096x1024 : Shape := ⟨3, ![4, 4096, 1024]⟩
abbrev S4096x64 : Shape := ⟨2, ![4096, 64]⟩
abbrev S4096 : Shape := ⟨1, ![4096]⟩
abbrev S2 : Shape := ⟨1, ![2]⟩
abbrev S_ : Shape := ⟨0, ![]⟩

class Facts : Prop where
  slicesBy_S4096_S2_0s2048 : S4096.SlicesBy (![0] : Fin 1 → Nat) ![2048] S2
  bcast_S_S2 : S_.BroadcastsInDim S2 (![] : Fin 0 → Fin S2.rank)

variable [Facts]

def fn {F : FTy → Type} [FloatOps F] (main_arg0 : FVec F S4x4096x1024 .f32) (main_arg1 : FVec F S4096x64 .f32) (main_arg2 : IVec S4096 32) : IVec S2 1 :=
  let main_v0 : IVec S2 32 := (Host.slice S2 ![0] ![2048] · slicesBy_S4096_S2_0s2048) main_arg2
  let main_c : IVec S_ 32 := constantI S_ 32 0#32
  let main_v1 : IVec S2 32 := broadcastInDim S2 ![] bcast_S_S2 main_c
  let main_v2 : IVec S2 1 := cmpi .sge main_v0 main_v1
  let main_c_0 : IVec S_ 32 := constantI S_ 32 2048#32
  let main_v3 : IVec S2 32 := broadcastInDim S2 ![] bcast_S_S2 main_c_0
  let main_v4 : IVec S2 1 := cmpi .sle main_v0 main_v3
  let main_v5 : IVec S2 1 := andi main_v2 main_v4
  let main_c_1 : IVec S_ 32 := constantI S_ 32 8#32
  let main_v6 : IVec S2 32 := broadcastInDim S2 ![] bcast_S_S2 main_c_1
  let main_v7 : IVec S2 32 := Host.remsi main_v0 main_v6
  let main_c_2 : IVec S_ 32 := constantI S_ 32 0#32
  let main_v8 : IVec S2 32 := broadcastInDim S2 ![] bcast_S_S2 main_c_2
  let main_v9 : IVec S2 1 := cmpi .eq main_v7 main_v8
  let main_v10 : IVec S2 1 := andi main_v5 main_v9
  main_v10
-- ==== Kernel.lean ====
abbrev S4x4096x1024 : Shape := ⟨3, ![4, 4096, 1024]⟩
abbrev S4096x64 : Shape := ⟨2, ![4096, 64]⟩
abbrev S4096 : Shape := ⟨1, ![4096]⟩
abbrev S4x4096x1088 : Shape := ⟨3, ![4, 4096, 1088]⟩
abbrev S2048 : Shape := ⟨1, ![2048]⟩
abbrev S1x2048x1024 : Shape := ⟨3, ![1, 2048, 1024]⟩
abbrev S1x2048x1088 : Shape := ⟨3, ![1, 2048, 1088]⟩
abbrev S1 : Shape := ⟨1, ![1]⟩
abbrev S2048x64 : Shape := ⟨2, ![2048, 64]⟩
abbrev S1x2048x64 : Shape := ⟨3, ![1, 2048, 64]⟩

abbrev nBuf : Space → Nat
  | .hbm => 4
  | .vmem => 5
  | .smem => 2
  | _ => 0

abbrev bufTy : (tb : Table) → Fin (tcTables nBuf tb) → BufTy
  | .hbm, ⟨0, _⟩ => ⟨S4x4096x1024, .f32⟩
  | .hbm, ⟨1, _⟩ => ⟨S4096x64, .f32⟩
  | .hbm, ⟨2, _⟩ => ⟨S4096, .i32⟩
  | .hbm, ⟨3, _⟩ => ⟨S4x4096x1088, .f32⟩
  | .local _ .vmem, ⟨0, _⟩ => ⟨S1x2048x1024, .f32⟩
  | .local _ .vmem, ⟨1, _⟩ => ⟨S1x2048x1024, .f32⟩
  | .local _ .vmem, ⟨2, _⟩ => ⟨S4096x64, .f32⟩
  | .local _ .vmem, ⟨3, _⟩ => ⟨S1x2048x1088, .f32⟩
  | .local _ .vmem, ⟨4, _⟩ => ⟨S1x2048x1088, .f32⟩
  | .local _ .smem, ⟨0, _⟩ => ⟨S2048, .i32⟩
  | .local _ .smem, ⟨1, _⟩ => ⟨S2048, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_mult1 (v0 : BitVec 32) : BitVec 32 :=
  v0

def k0_off1 (v0 : BitVec 32) : Fin 2 → Nat :=
  let v1 : BitVec 32 := v0
  let v4 : Index := Scalar.indexCast v1
  let c0_6 : Index := 0#32
  ![v4.toNat, 0]

def k0_chk1 (v0 : BitVec 32) : Prop :=
  (8 ∣ (k0_mult1 v0).toNat) ∧
  (∀ a, (k0_off1 v0) a + S2048x64.size a ≤ S4096x64.size a)
theorem k0_mult1_dvd : ∀ (v0 : BitVec 32) (k0_hw1 : k0_chk1 v0), 8 ∣ (k0_mult1 v0).toNat := fun v0 k0_hw1 => k0_hw1.1
theorem k0_off1_inb : ∀ (v0 : BitVec 32) (k0_hw1 : k0_chk1 v0), ∀ a, (k0_off1 v0) a + S2048x64.size a ≤ S4096x64.size a := fun v0 k0_hw1 => k0_hw1.2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S4x4096x1024 : Shape := ⟨3, ![4, 4096, 1024]⟩
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x64 : Shape := ⟨3, ![1, 4096, 64]⟩
abbrev S1x1x1x4096x1x64 : Shape := ⟨6, ![1, 1, 1, 4096, 1, 64]⟩
abbrev S4x1x1x4096x1x64 : Shape := ⟨6, ![4, 1, 1, 4096, 1, 64]⟩
abbrev S4x4096x64 : Shape := ⟨3, ![4, 4096, 64]⟩
abbrev S4x4096x1088 : Shape := ⟨3, ![4, 4096, 1088]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x64, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x64, .f32⟩
  | .hbm, ⟨22, _⟩ => ⟨S4096x64, .i1⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S1x4096x64, .f32⟩
  | .hbm, ⟨27, _⟩ => ⟨S1x1x1x4096x1x64, .f32⟩
  | .hbm, ⟨28, _⟩ => ⟨S4x1x1x4096x1x64, .f32⟩
  | .hbm, ⟨29, _⟩ => ⟨S4x4096x64, .f32⟩
  | .hbm, ⟨30, _⟩ => ⟨S4x4096x1088, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Positions.lean ====
/- What the two preconditions say of the positions, in natural numbers.

   The 4096 positions are cut into two blocks of 2048. `AtStarts` speaks of the first position of each block, the only
   one the kernel reads; `InRuns` of all of them. `atStarts_of_starts` and `inRuns_of_runs` read them off the printed
   preconditions `starts` and `runs`. -/
module

public import proofs.«01_k».proof.Pre_starts
public import proofs.«01_k».proof.Pre_runs
public import Idealize.ShloMosaic.Lib.Affine
public import Idealize.ShloMosaic.Lib.IdealHost
public import Idealize.ShloMosaic.Lib.Pipeline.ValueKit
public import Idealize.ShloMosaic.Lib.Pointwise.ElementwiseCore

@[expose] public section

noncomputable section

namespace Cert.Proof

open Idealize.ShloMosaic

/-- The first position of every block of 2048 is a multiple of 8 and at most 2048, so that 2048 rows of the table
    follow from it. -/
def AtStarts (pos : IVec ⟨1, ![4096]⟩ 32) : Prop :=
  ∀ i : Fin 4096, i.val % 2048 = 0 → (pos (ix1 i)).toNat ≤ 2048 ∧ 8 ∣ (pos (ix1 i)).toNat

/-- The positions of every block of 2048 are consecutive: position `i` is its block's first one (at `j`) plus `i`'s
    place in the block. -/
def InRuns (pos : IVec ⟨1, ![4096]⟩ 32) : Prop :=
  ∀ i j : Fin 4096, j.val = 2048 * (i.val / 2048) → (pos (ix1 i)).toNat = (pos (ix1 j)).toNat + i.val % 2048

/-- A word that passes the three comparisons made of a first position (not negative, at most 2048, remainder 0 by 8, all
    signed) is, as a natural number, at most 2048 and a multiple of 8. -/
theorem start_word (x : BitVec 32)
    (h : IntOp.andi (IntOp.andi (IntOp.cmpi .sge x 0#32) (IntOp.cmpi .sle x 2048#32))
      (IntOp.cmpi .eq (IntOp.remsi .host x 8#32) 0#32) = 1#1) : x.toNat ≤ 2048 ∧ 8 ∣ x.toNat := by
  rw [IntOp.andi_eq_one, IntOp.andi_eq_one, show IntOp.cmpi .sge x 0#32 = 1#1 ↔ _ from Scalar.nonneg_iff x, IntOp.cmpi_sle, IntOp.cmpi_eq] at h
  obtain ⟨⟨h0, h1⟩, h2⟩ := h
  have h1' : x.toNat ≤ 2048 := by
    rw [BitVec.toInt_eq_toNat_of_lt h0] at h1
    have : (2048#32 : BitVec 32).toInt = 2048 := by decide
    omega
  exact ⟨h1', (IntOp.remsi_eq_zero_iff .host h0 8 (by decide) (by decide)).1 h2⟩

/-- Where the precondition `starts` is all ones, the first positions are as `AtStarts` says. -/
theorem atStarts_of_starts {F : FTy → Type} [FloatOps F] [Cert.Pre_starts.Facts] (x : FVec F ⟨3, ![4, 4096, 1024]⟩ .f32)
    (pe : FVec F ⟨2, ![4096, 64]⟩ .f32) (pos : IVec ⟨1, ![4096]⟩ 32)
    (h : Cert.Pre_starts.fn (F := F) x pe pos = fun _ => 1#1) : AtStarts pos := by
  intro i hi
  have e := congrFun h (ix1 (⟨i.val / 2048, by omega⟩ : Fin 2))
  refine start_word _ (Eq.trans ?_ e)
  have hs : Host.slice (⟨1, ![2]⟩ : Shape) ![0] ![2048] pos Cert.Pre_starts.Facts.slicesBy_S4096_S2_0s2048
      (ix1 (⟨i.val / 2048, by omega⟩ : Fin 2)) = pos (ix1 i) := by
    unfold Host.slice
    refine congrArg pos (funext fun a => Fin.ext ?_)
    match a with
    | ⟨0, _⟩ =>
      show 0 + 2048 * (i.val / 2048) = i.val
      omega
  rw [← hs]
  rfl

/-- Where the precondition `runs` is all ones, the first positions are as `AtStarts` says and the positions consecutive as
    `InRuns` says. -/
theorem inRuns_of_runs {F : FTy → Type} [FloatOps F] [Cert.Pre_runs.Facts] (x : FVec F ⟨3, ![4, 4096, 1024]⟩ .f32)
    (pe : FVec F ⟨2, ![4096, 64]⟩ .f32) (pos : IVec ⟨1, ![4096]⟩ 32)
    (h : Cert.Pre_runs.fn (F := F) x pe pos = fun _ => 1#1) : AtStarts pos ∧ InRuns pos := by
  -- the reshaped positions at block `b`, place `r`
  have hc : ∀ (i : Fin 4096), shapeCast (⟨2, ![2, 2048]⟩ : Shape) pos Cert.Pre_runs.Facts.shapeCasts_S4096_S2x2048
      (ix2 (⟨i.val / 2048, by omega⟩ : Fin 2) (⟨i.val % 2048, by omega⟩ : Fin 2048)) = pos (ix1 i) := fun i => by
    refine shapeCast_apply pos _ _ _ ?_
    rw [Shape.rowMajor_val_one, Shape.rowMajor_val_two]
    show i.val = i.val / 2048 * 2048 + i.val % 2048
    omega
  -- the first column of block `b`
  have hf : ∀ (b : Fin 2) (j : Fin 4096), j.val = 2048 * b.val →
      extractStridedSlice (⟨2, ![2, 1]⟩ : Shape) ![0, 0] (shapeCast (⟨2, ![2, 2048]⟩ : Shape) pos
        Cert.Pre_runs.Facts.shapeCasts_S4096_S2x2048) Cert.Pre_runs.Facts.slices_S2x2048_S2x1_0_0 (ix2 b (0 : Fin 1)) = pos (ix1 j) := fun b j hj => by
    rw [← hc j]
    refine extractStridedSlice_apply _ _ _ _ _ fun a => ?_
    fin_cases a
    · show j.val / 2048 = 0 + b.val
      omega
    · show j.val % 2048 = 0 + 0
      omega
  have key : ∀ i j : Fin 4096, j.val = 2048 * (i.val / 2048) →
      IntOp.andi (IntOp.andi (IntOp.andi (IntOp.cmpi .sge (pos (ix1 j)) 0#32) (IntOp.cmpi .sle (pos (ix1 j)) 2048#32))
        (IntOp.cmpi .eq (IntOp.remsi .host (pos (ix1 j)) 8#32) 0#32))
        (IntOp.cmpi .eq (pos (ix1 i)) (pos (ix1 j) + BitVec.ofNat 32 (i.val % 2048))) = 1#1 := fun i j hj => by
    have e := congrFun h (ix2 (⟨i.val / 2048, by omega⟩ : Fin 2) (⟨i.val % 2048, by omega⟩ : Fin 2048))
    rw [← hf ⟨i.val / 2048, by omega⟩ j hj, ← hc i]
    refine Eq.trans ?_ e
    have hb : ∀ {α : Type} (y : (⟨2, ![2, 1]⟩ : Shape).Idx → α), broadcastInDim (⟨2, ![2, 2048]⟩ : Shape) ![0, 1]
        Cert.Pre_runs.Facts.bcast_S2x1_S2x2048_0_1 y (ix2 (⟨i.val / 2048, by omega⟩ : Fin 2) (⟨i.val % 2048, by omega⟩ : Fin 2048))
          = y (ix2 (⟨i.val / 2048, by omega⟩ : Fin 2) (0 : Fin 1)) := fun y => by
      refine broadcastInDim_apply _ _ _ _ _ fun a => ?_
      fin_cases a <;> rfl
    dsimp only [Cert.Pre_runs.fn, andi, cmpi, addi]
    rw [hb, hb]
    rfl
  refine ⟨fun i hi => ?_, fun i j hj => ?_⟩
  · have k := key i i (by omega)
    rw [IntOp.andi_eq_one] at k
    exact start_word _ k.1
  · have k := key i j hj
    rw [IntOp.andi_eq_one] at k
    have hw := (start_word _ k.1).1
    rw [IntOp.cmpi_eq.1 k.2, BitVec.toNat_add, BitVec.toNat_ofNat]
    omega

end Cert.Proof

end
-- ==== Proof.Joined.lean ====
/- The result both programs are shown to hold: `joined x pe pos`, each row of `x` followed by a row of the table `pe`. -/
module

public import proofs.«01_k».proof.Proof.Positions

@[expose] public section

noncomputable section

namespace Cert.Proof

open Idealize.ShloMosaic

/-- The row of the table that position `i` names. It is the position itself where that is below 4096, which `AtStarts` and
    `InRuns` together give (`pos_lt`); the remainder only makes the definition total. -/
def rowAt (pos : IVec ⟨1, ![4096]⟩ 32) (i : Fin 4096) : Fin 4096 := ⟨(pos (ix1 i)).toNat % 4096, Nat.mod_lt _ (by decide)⟩

/-- Entry `(b, i, j)` is `x (b, i, j)` for `j < 1024`, and entry `j - 1024` of the table's row at position `i` otherwise. -/
def joined {α : Type} (x : (⟨3, ![4, 4096, 1024]⟩ : Shape).Idx → α) (pe : (⟨2, ![4096, 64]⟩ : Shape).Idx → α)
    (pos : IVec ⟨1, ![4096]⟩ 32) (y : (⟨3, ![4, 4096, 1088]⟩ : Shape).Idx) : α :=
  if h : (y 2).val < 1024 then x (ix3 (y 0) (y 1) ⟨(y 2).val, h⟩)
  else pe (ix2 (rowAt pos (y 1)) ⟨(y 2).val - 1024, by have : (y 2).val < 1088 := (y 2).isLt; omega⟩)

/-- `joined` at an entry of its first 1024 columns is the entry of `x` with the same coordinates. -/
theorem joined_left {α : Type} (x : (⟨3, ![4, 4096, 1024]⟩ : Shape).Idx → α) (pe : (⟨2, ![4096, 64]⟩ : Shape).Idx → α)
    (pos : IVec ⟨1, ![4096]⟩ 32) (y : (⟨3, ![4, 4096, 1088]⟩ : Shape).Idx) (i : (⟨3, ![4, 4096, 1024]⟩ : Shape).Idx)
    (h0 : (i 0).val = (y 0).val) (h1 : (i 1).val = (y 1).val) (h2 : (i 2).val = (y 2).val) : joined x pe pos y = x i := by
  have h : (y 2).val < 1024 := h2 ▸ (i 2).isLt
  unfold joined
  rw [dif_pos h]
  refine congrArg x (funext fun a => Fin.ext ?_)
  match a with
  | ⟨0, _⟩ => exact h0.symm
  | ⟨1, _⟩ => exact h1.symm
  | ⟨2, _⟩ => exact h2.symm

/-- `joined` at an entry of its last 64 columns is the table's entry at the row the position names. -/
theorem joined_right {α : Type} (x : (⟨3, ![4, 4096, 1024]⟩ : Shape).Idx → α) (pe : (⟨2, ![4096, 64]⟩ : Shape).Idx → α)
    (pos : IVec ⟨1, ![4096]⟩ 32) (y : (⟨3, ![4, 4096, 1088]⟩ : Shape).Idx) (i : (⟨2, ![4096, 64]⟩ : Shape).Idx)
    (h0 : (i 0).val = (rowAt pos (y 1)).val) (h1 : (i 1).val + 1024 = (y 2).val) : joined x pe pos y = pe i := by
  unfold joined
  rw [dif_neg (by omega)]
  refine congrArg pe (funext fun a => Fin.ext ?_)
  match a with
  | ⟨0, _⟩ => exact h0.symm
  | ⟨1, _⟩ =>
    show (y 2).val - 1024 = (i 1).val
    omega

/-- Under the two conditions on the positions, each is below 4096: it names a row of the table. -/
theorem pos_lt {pos : IVec ⟨1, ![4096]⟩ 32} (hs : AtStarts pos) (hr : InRuns pos) (i : Fin 4096) : (pos (ix1 i)).toNat < 4096 := by
  have h1 := hr i ⟨2048 * (i.val / 2048), by omega⟩ rfl
  have h2 := (hs ⟨2048 * (i.val / 2048), by omega⟩ (by show 2048 * (i.val / 2048) % 2048 = 0; omega)).1
  omega

/-- Under the two conditions, the row of position `i` is its block's first position (at `j`) plus `i`'s place in the block. -/
theorem rowAt_val {pos : IVec ⟨1, ![4096]⟩ 32} (hs : AtStarts pos) (hr : InRuns pos) (i j : Fin 4096)
    (hj : j.val = 2048 * (i.val / 2048)) : (rowAt pos i).val = (pos (ix1 j)).toNat + i.val % 2048 := by
  rw [← hr i j hj]
  exact Nat.mod_eq_of_lt (pos_lt hs hr i)

end Cert.Proof

end
-- ==== Proof.KernelIdealValue.lean ====
/- The idealized kernel's run: the conditions its body assumes of the positions it reads hold under `AtStarts`, and its
   result array ends as `joined` of its arguments. -/
module

public import proofs.«01_k».proof.Proof.Joined
public import proofs.«01_k».proof.Proof.Gen.KernelIdeal.Value
public import Idealize.ShloMosaic.Lib.Pipeline.ValueKit

@[expose] public section

set_option maxRecDepth 16384

noncomputable section

namespace Cert.Proof.KernelIdeal

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The blocks that grid point `t` works on: block `(b, s)` of `x`, of the result, block `s` of the positions and the
    whole table, where `(b, s)` are the point's coordinates. -/
theorem index_maps : ∀ t : Fin cfg0.N,
    (win0_0.index t = ![(grid0.coords t 1).val]) ∧ (win0_1.index t = ![(grid0.coords t 0).val, (grid0.coords t 1).val, 0])
      ∧ (win0_2.index t = ![0, 0]) ∧ (win0_3.index t = ![(grid0.coords t 0).val, (grid0.coords t 1).val, 0]) := by
  decide +kernel

/-- The word the body reads at grid point `(b, s)` is the first position of block `s`. -/
theorem start_eq (c : Dev nD) (t : Fin cfg0.N) (j : Fin 4096) (hj : j.val = 2048 * (grid0.coords t 1).val) (k : S1.Idx) :
    iblk m c 0 t ((Rect.unit (s := S2048) ![0] ![1] inb_S2048_S1_0).idx k) = m ((c : Thread nD τ).loc main_arg2) (ix1 j) := by
  obtain ⟨e0, -⟩ := index_maps t
  have hk : (k 0).val < 1 := (k 0).isLt
  unfold iblk
  rw [View.read_apply]
  refine congrArg (m ((c : Thread nD τ).loc main_arg2)) (funext fun a => Fin.ext ?_)
  match a with
  | ⟨0, _⟩ =>
    blk_simp [e0]
    rw [Rect.idx_unit_val]
    show (grid0.coords t 1).val * 2048 + (0 + (k 0).val) = j.val
    omega

/-- The conditions the body assumes of the position it reads hold at every grid point. -/
theorem hyps (h : ∀ c : Dev nD, AtStarts (m ((c : Thread nD τ).loc main_arg2))) : Hyps m := fun c t => by
  have hs : (grid0.coords t 1).val < 2 := (grid0.coords t 1).isLt
  have e := h c ⟨2048 * (grid0.coords t 1).val, by omega⟩ (by show 2048 * (grid0.coords t 1).val % 2048 = 0; omega)
  simp only [View.readAt_apply, Memref.IsWhole.read_unread]
  rw [show (Rect.unit (s := S2048) ![0] S1.size inb_S2048_S1_0).toLoadRect.idx = (Rect.unit (s := S2048) ![0] ![1] inb_S2048_S1_0).idx from rfl,
    start_eq m c t ⟨2048 * (grid0.coords t 1).val, by omega⟩ rfl]
  unfold k0_chk1 k0_off1 k0_mult1
  refine ⟨e.2, fun a => ?_⟩
  match a with
  | ⟨0, _⟩ =>
    show BitVec.toNat _ + 2048 ≤ 4096
    simp only [Scalar.indexCast]
    omega
  | ⟨1, _⟩ => exact Nat.le_refl _

/-- The block of `x` at a grid point, read at an index, is `x` at any index whose coordinates are the block's place plus that
    index. -/
theorem x_block (c : Dev nD) (t : Fin cfg0.N) (x : S1x2048x1024.Idx) (i : S4x4096x1024.Idx)
    (h0 : (i 0).val = (grid0.coords t 0).val) (h1 : (i 1).val = (grid0.coords t 1).val * 2048 + (x 1).val)
    (h2 : (i 2).val = (x 2).val) : iblk m c 1 t x = m ((c : Thread nD τ).loc main_arg0) i := by
  obtain ⟨-, e1, -, -⟩ := index_maps t
  unfold iblk
  rw [View.read_apply]
  refine congrArg (m ((c : Thread nD τ).loc main_arg0)) (funext fun a => Fin.ext ?_)
  match a with
  | ⟨0, _⟩ =>
    blk_simp [e1]
    exact h0.symm
  | ⟨1, _⟩ =>
    blk_simp [e1]
    exact h1.symm
  | ⟨2, _⟩ =>
    blk_simp [e1]
    exact h2.symm

/-- The table's block is the whole table at every grid point. -/
theorem table_block (c : Dev nD) (t : Fin cfg0.N) (i : S4096x64.Idx) : iblk m c 2 t i = m ((c : Thread nD τ).loc main_arg1) i := by
  obtain ⟨-, -, e2, -⟩ := index_maps t
  unfold iblk
  rw [View.read_apply]
  refine congrArg (m ((c : Thread nD τ).loc main_arg1)) (funext fun a => Fin.ext ?_)
  match a with
  | ⟨0, _⟩ => blk_simp [e2]
  | ⟨1, _⟩ => blk_simp [e2]

/-- The place in the result array of the index `y` of grid point `t`'s block. -/
theorem result_place (t : Fin cfg0.N) (y : S1x2048x1088.Idx) :
    ((((cfg0.win 3).blk t).view.emb y) 0).val = (grid0.coords t 0).val
      ∧ ((((cfg0.win 3).blk t).view.emb y) 1).val = (grid0.coords t 1).val * 2048 + (y 1).val
      ∧ ((((cfg0.win 3).blk t).view.emb y) 2).val = (y 2).val := by
  obtain ⟨-, -, -, e3⟩ := index_maps t
  have h0 : (y 0).val < 1 := (y 0).isLt
  refine ⟨?_, ?_, ?_⟩
  · blk_simp [e3]
  · blk_simp [e3]
  · blk_simp [e3]

/-- Under both conditions on the positions, the result array ends as `joined` of the arguments. -/
theorem final_array (hH : Hyps m) (c : Dev nD) (hs : AtStarts (m ((c : Thread nD τ).loc main_arg2)))
    (hr : InRuns (m ((c : Thread nD τ).loc main_arg2))) :
    (dats m hH 0 c).arrAt 3 cfg0.N = joined (m ((c : Thread nD τ).loc main_arg0)) (m ((c : Thread nD τ).loc main_arg1)) (m ((c : Thread nD τ).loc main_arg2)) := by
  refine (dats m hH 0 c).arrAt_eq_of_covers 3 _ (by decide +kernel) fun t hf y => ?_
  have hc : (grid0.coords t 1).val < 2 := (grid0.coords t 1).isLt
  obtain ⟨z0, z1, z2⟩ := result_place t y
  generalize (((cfg0.win 3).blk t).view.emb y : S4x4096x1088.Idx) = z at z0 z1 z2 ⊢
  blk_simp
  rw [after0_3]
  unfold outsAt0
  frame_out
  canon_tiles x h using View.cover_of_tiledBy _ ![1, 2048, 64] (by sl_kernel_rfl) y
  · unfold k0_pay1
    have hrow := rowAt_val hs hr (z 1) ⟨2048 * (grid0.coords t 1).val, by omega⟩ (by
      show 2048 * (grid0.coords t 1).val = 2048 * ((z 1).val / 2048)
      omega)
    have hz : (z 1).val % 2048 = (x 1).val := by omega
    rw [joined_right _ _ _ z (ix2 (rowAt (m ((c : Thread nD τ).loc main_arg2)) (z 1)) ⟨(x 2).val, x2_lt⟩) rfl
        (by show (x 2).val + 1024 = (z 2).val; omega), ← table_block m c t]
    refine (shapeCast_apply _ _ _ (ix2 ⟨(x 1).val, x1_lt⟩ ⟨(x 2).val, x2_lt⟩) ?_).trans ?_
    · rw [Shape.rowMajor_val_two, Shape.rowMajor_val_three]
      show (x 1).val * 64 + (x 2).val = ((x 0).val * 2048 + (x 1).val) * 64 + (x 2).val
      omega
    · refine View.ld_unit_apply_of _ _ _ _ _ _ fun a => ?_
      match a with
      | ⟨0, _⟩ =>
        refine (hrow.trans (congrArg (_ + ·) hz)).trans (congrArg (BitVec.toNat · + (x 1).val) ?_)
        rw [Memref.IsWhole.read_unread]
        exact (start_eq m c t ⟨2048 * (grid0.coords t 1).val, by omega⟩ rfl _).symm
      | ⟨1, _⟩ => exact (Nat.zero_add _).symm
  · have hx : (x 2).val < 1024 := x2_lt
    rw [joined_left _ _ _ z (ix3 (z 0) (z 1) ⟨(x 2).val, hx⟩) rfl rfl (by show (x 2).val = (z 2).val; omega)]
    exact x_block m c t x _ z0 (by show (z 1).val = _; omega) rfl

end Cert.Proof.KernelIdeal

end
-- ==== Proof.ReferenceValue.lean ====
/- The reference's result, for any float values: under the two conditions on the positions, `joined` of its arguments.

   The reference wraps a negative position once around the table, masks the positions that still miss it, gathers a row
   per position, writes NaN at the masked ones, repeats the rows along a new leading axis and concatenates. Under the
   conditions no position is negative and none is masked, so what is left is the gather. -/
module

public import proofs.«01_k».proof.Proof.Joined
public import proofs.«01_k».proof.Proof.Gen.ReferenceIdeal
public import Idealize.ShloMosaic.Lib.ReduceAll
public import Idealize.ShloMosaic.Lib.Routing.Ops
public import Idealize.ShloMosaic.Lib.ValueIdxRank6

@[expose] public section

set_option maxRecDepth 16384

noncomputable section

namespace Cert.Proof.Reference

open Cert.ReferenceIdeal Cert.ReferenceIdeal.Gen Idealize.ShloMosaic

/-- The positions after the reference's wrap: 4096 added to the negative ones. -/
def wrapped (pos : IVec S4096 32) : IVec S4096 32 :=
  select (cmpi .slt pos (broadcastInDim S4096 ![] bcast_S_S4096 (constantI S_ 32 0#32)))
    (addi pos (broadcastInDim S4096 ![] bcast_S_S4096 (constantI S_ 32 4096#32))) pos

/-- Position by position, whether an index column holds a row number of the table: 1 where it is from 0 to 4095. -/
def mask (idx : IVec S4096x1 32) : IVec S4096 1 :=
  Host.reduce IntOp.andi (andi (cmpi .sge idx (broadcastInDim S4096x1 ![] bcast_S_S4096x1 (constantI S_ 32 0#32)))
    (cmpi .sle idx (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The rows the reference takes: the gathered row where the index is in the table, NaN elsewhere. -/
def taken {F : FTy → Type} [FloatOps F] (pe : FVec F S4096x64 .f32) (idx : IVec S4096x1 32) : FVec F S4096x64 .f32 :=
  select (broadcastInDim S4096x64 ![0] bcast_S4096_S4096x64_0 (mask idx))
    (Host.gather gather_S4096x64_S4096x1_S4096x64_1_0_n_n_0_1_164 pe idx)
    (broadcastInDim S4096x64 ![] bcast_S_S4096x64 (constant S_ .f32 0x7FC00000#32))

/-- An array of rows repeated four times along a new leading axis. -/
def repeated {α : Type} (r : S4096x64.Idx → α) : S4x4096x64.Idx → α :=
  shapeCast S4x4096x64 (broadcastInDim S4x1x1x4096x1x64 ![0, 1, 2, 3, 4, 5] bcast_S1x1x1x4096x1x64_S4x1x1x4096x1x64_0_1_2_3_4_5
    (shapeCast S1x1x1x4096x1x64 (broadcastInDim S1x4096x64 ![1, 2] bcast_S4096x64_S1x4096x64_1_2 r) shapeCasts_S1x4096x64_S1x1x1x4096x1x64))
    shapeCasts_S4x1x1x4096x1x64_S4x4096x64

/-- The reference's result as one function of its arguments. -/
def result {F : FTy → Type} [FloatOps F] (x : FVec F S4x4096x1024 .f32) (pe : FVec F S4096x64 .f32) (pos : IVec S4096 32) :
    FVec F S4x4096x1088 .f32 :=
  concatenate S4x4096x1088 2 [⟨S4x4096x1024, x⟩,
    ⟨S4x4096x64, repeated (taken pe (broadcastInDim S4096x1 ![0] bcast_S4096_S4096x1_0 (wrapped pos)))⟩]
    concatenates_S4x4096x1024_S4x4096x64_S4x4096x1088_d2

/-- Under the conditions the wrap changes nothing. -/
theorem wrapped_eq {pos : IVec S4096 32} (hs : AtStarts pos) (hr : InRuns pos) : wrapped pos = pos := by
  funext i
  have hi : i = ix1 (i 0) := by funext a; match a with | ⟨0, _⟩ => rfl
  have hp : (pos i).toNat < 4096 := by
    rw [hi]
    exact pos_lt hs hr (i 0)
  show (if IntOp.cmpi .slt (pos i) 0#32 = 1#1 then _ else pos i) = _
  rw [if_neg]
  rw [IntOp.cmpi_slt, BitVec.toInt_eq_toNat_of_lt (x := pos i) (by omega), show (0#32 : BitVec 32).toInt = 0 from by decide]
  omega

/-- An index column of numbers below 4096 is masked nowhere. -/
theorem mask_eq (idx : IVec S4096x1 32) (h : ∀ i, (idx i).toNat < 4096) (i : S4096.Idx) : mask idx i = 1#1 := by
  refine Host.reduce_andi_one _ _ _ _ _ rfl fun k => ?_
  have hk := h k
  show IntOp.andi (IntOp.cmpi .sge (idx k) 0#32) (IntOp.cmpi .sle (idx k) 4095#32) = 1#1
  rw [IntOp.andi_eq_one, IntOp.cmpi_sge, IntOp.cmpi_sle, BitVec.toInt_eq_toNat_of_lt (x := idx k) (by omega),
    show (0#32 : BitVec 32).toInt = 0 from by decide, show (4095#32 : BitVec 32).toInt = 4095 from by decide]
  omega

/-- Under the conditions the row taken for position `i` is the table's row at that position. -/
theorem taken_apply {F : FTy → Type} [FloatOps F] (pe : FVec F S4096x64 .f32) {pos : IVec S4096 32} (hs : AtStarts pos)
    (hr : InRuns pos) (i : Fin 4096) (k : Fin 64) :
    taken pe (broadcastInDim S4096x1 ![0] bcast_S4096_S4096x1_0 pos) (ix2 i k) = pe (ix2 (rowAt pos i) k) := by
  have hidx : ∀ q : S4096x1.Idx, broadcastInDim S4096x1 ![0] bcast_S4096_S4096x1_0 pos q = pos (ix1 (q 0)) := fun q => by
    refine broadcastInDim_apply _ _ _ _ _ fun a => ?_
    match a with
    | ⟨0, _⟩ => rfl
  generalize broadcastInDim S4096x1 ![0] bcast_S4096_S4096x1_0 pos = idx at hidx ⊢
  have hm : ∀ q, mask idx q = 1#1 := mask_eq idx fun q => by rw [hidx]; exact pos_lt hs hr _
  show (if broadcastInDim S4096x64 ![0] bcast_S4096_S4096x64_0 (mask idx) (ix2 i k) = 1#1 then
    Host.gather gather_S4096x64_S4096x1_S4096x64_1_0_n_n_0_1_164 pe idx (ix2 i k) else _) = _
  refine (if_pos (hm _)).trans ?_
  refine Routing.gather_row _ rfl rfl rfl rfl rfl pe idx i k (rowAt pos i) ?_ (by decide)
  rw [hidx]
  show pos (ix1 i) = BitVec.ofNat 32 ((pos (ix1 i)).toNat % 4096)
  rw [Nat.mod_eq_of_lt (pos_lt hs hr i), BitVec.ofNat_toNat, BitVec.setWidth_eq]

/-- The repeated rows at `(b, i, k)` are the rows at `(i, k)`. -/
theorem repeated_apply {α : Type} (r : S4096x64.Idx → α) (b : Fin 4) (i : Fin 4096) (k : Fin 64) :
    repeated r (ix3 b i k) = r (ix2 i k) := by
  unfold repeated
  refine (shapeCast_apply _ _ _ (ix6 b (0 : Fin 1) (0 : Fin 1) i (0 : Fin 1) k) ?_).trans ?_
  · rw [Shape.rowMajor_val_six, Shape.rowMajor_val_three]
    show ((((b.val * 1 + 0) * 1 + 0) * 4096 + i.val) * 1 + 0) * 64 + k.val = (b.val * 4096 + i.val) * 64 + k.val
    omega
  refine (broadcastInDim_apply _ _ _ _ (ix6 (0 : Fin 1) (0 : Fin 1) (0 : Fin 1) i (0 : Fin 1) k) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ _ _ (ix3 (0 : Fin 1) i k) ?_).trans ?_
  · rw [Shape.rowMajor_val_six, Shape.rowMajor_val_three]
    show (0 * 4096 + i.val) * 64 + k.val = ((((0 * 1 + 0) * 1 + 0) * 4096 + i.val) * 1 + 0) * 64 + k.val
    omega
  refine broadcastInDim_apply _ _ _ _ _ fun a => ?_
  match a with
  | ⟨0, _⟩ => rfl
  | ⟨1, _⟩ => rfl

/-- Under the conditions the reference's result is `joined` of its arguments. -/
theorem result_eq {F : FTy → Type} [FloatOps F] (x : FVec F S4x4096x1024 .f32) (pe : FVec F S4096x64 .f32) {pos : IVec S4096 32}
    (hs : AtStarts pos) (hr : InRuns pos) : result x pe pos = joined x pe pos := by
  funext y
  unfold result
  rw [wrapped_eq hs hr]
  have hy : (y 2).val < 1088 := (y 2).isLt
  by_cases h : (y 2).val < 1024
  · rw [joined_left x pe pos y (ix3 (y 0) (y 1) ⟨(y 2).val, h⟩) rfl rfl rfl]
    refine concatenate_pair_apply_left 2 x _ _ y rfl _ fun a => ?_
    match a with
    | ⟨0, _⟩ => rfl
    | ⟨1, _⟩ => rfl
    | ⟨2, _⟩ => rfl
  · have hk : (y 2).val - 1024 < 64 := by omega
    rw [joined_right x pe pos y (ix2 (rowAt pos (y 1)) ⟨(y 2).val - 1024, hk⟩) rfl (by show (y 2).val - 1024 + 1024 = (y 2).val; omega),
      ← taken_apply pe hs hr (y 1) ⟨(y 2).val - 1024, hk⟩]
    refine Eq.trans ?_ (repeated_apply (taken pe (broadcastInDim S4096x1 ![0] bcast_S4096_S4096x1_0 pos)) (y 0) (y 1)
      ⟨(y 2).val - 1024, hk⟩)
    refine concatenate_pair_apply_right (t := S4x4096x1088) (s₂ := S4x4096x64) 2 x _ _ y rfl rfl
      (ix3 (y 0) (y 1) ⟨(y 2).val - 1024, hk⟩) (fun a ha => ?_) ?_
    · match a, ha with
      | ⟨0, _⟩, _ => rfl
      | ⟨1, _⟩, _ => rfl
      | ⟨2, _⟩, ha => exact absurd rfl ha
    · show (y 2).val - 1024 + 1024 = (y 2).val
      omega

end Cert.Proof.Reference

end
-- ==== Proof.lean ====
/- The proof of every claim of the certificate.

   The frames are the generated ones; what the body assumes of the positions it reads is proved from the precondition
   (Proof/Positions.lean, `hyps` of Proof/KernelValue.lean and Proof/KernelIdealValue.lean).
   The two value claims go through one function of the arguments, `joined` (Proof/Joined.lean):
   the kernel's result array is it (`final_array`), and so is the reference's (`result_eq` of
   Proof/ReferenceValue.lean). -/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_starts
public import proofs.«01_k».proof.Proof.Gen.Pre_runs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem

/-! ## Frames -/

/-- The kernel runs from any memory whose positions satisfy `starts`. -/
theorem frame_kernel : Cert.quiescent_Kernel := fun m g h =>
  Cert.Kernel.Gen.frame m g (Kernel.hyps m fun c => atStarts_of_starts _ _ _ (h c))

/-- The kernel runs from any memory whose positions satisfy `runs`. -/
theorem frame_kernel_runs : Cert.quiescent_Kernel_pre_runs := fun m g h =>
  Cert.Kernel.Gen.frame m g (Kernel.hyps m fun c => (inRuns_of_runs _ _ _ (h c)).1)

/-- The idealized kernel runs from any memory whose positions satisfy `starts`. -/
theorem frame_kernelIdeal : Cert.quiescent_KernelIdeal := fun m g h =>
  Cert.KernelIdeal.Gen.frame m g (KernelIdeal.hyps m fun c => atStarts_of_starts _ _ _ (h c))

/-- The idealized kernel runs from any memory whose positions satisfy `runs`. -/
theorem frame_kernelIdeal_runs : Cert.quiescent_KernelIdeal_pre_runs := fun m g h =>
  Cert.KernelIdeal.Gen.frame m g (KernelIdeal.hyps m fun c => (inRuns_of_runs _ _ _ (h c)).1)

/-- The reference runs from any memory; it declares no semaphore. -/
theorem frame_reference : Cert.quiescent_Reference := fun m g _ =>
  (θ_run Cert.Reference.defs _ _).mono (fun r h => ⟨fun c => (h c).2, sem_eq_zero_of_no_sems (by decide) r.2⟩)
    (Cert.Reference.Value.run m g)

/-- The idealized reference runs from any memory; it declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-! ## Values -/

/-- Over the extended reals, where the positions satisfy `runs`, the idealized kernel and the idealized reference end with
    the same result: both hold `joined` of the arguments. -/
theorem algebraic : Cert.algebraic_KernelIdeal_ReferenceIdeal_pre_runs := by
  intro m g m' g' h ha
  have hp : ∀ c : Dev Cert.KernelIdeal.nD, AtStarts (m ((c : Thread Cert.KernelIdeal.nD Cert.KernelIdeal.τ).loc Cert.KernelIdeal.main_arg2)) ∧
      InRuns (m ((c : Thread Cert.KernelIdeal.nD Cert.KernelIdeal.τ).loc Cert.KernelIdeal.main_arg2)) :=
    fun c => inRuns_of_runs _ _ _ (h c)
  have hH := KernelIdeal.hyps m fun c => (hp c).1
  refine ⟨fun c => joined (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun r hr c => ⟨?_, (hr c).2⟩) (Cert.KernelIdeal.Value.run_blocks m g hH)
    exact (hr c).1.trans (KernelIdeal.final_array m hH c (hp c).1 (hp c).2)
  · refine (θ_run Cert.ReferenceIdeal.defs _ _).mono (fun r hr c => ⟨?_, (hr c).2⟩) (Cert.ReferenceIdeal.Value.run m' g')
    refine (hr c).1.trans ?_
    rw [(ha c).1, (ha c).2.1, (ha c).2.2]
    exact Reference.result_eq (F := Ideal) _ _ (hp c).1 (hp c).2

/-- Bit for bit, where the positions satisfy `runs`, the kernel and the reference end with the same result: both hold
    `joined` of the arguments. -/
theorem bitexact : Cert.bitexact_Kernel_Reference_pre_runs := by
  intro m g m' g' h ha
  have hp : ∀ c : Dev Cert.Kernel.nD, AtStarts (m ((c : Thread Cert.Kernel.nD Cert.Kernel.τ).loc Cert.Kernel.main_arg2)) ∧
      InRuns (m ((c : Thread Cert.Kernel.nD Cert.Kernel.τ).loc Cert.Kernel.main_arg2)) :=
    fun c => inRuns_of_runs _ _ _ (h c)
  have hH := Kernel.hyps m fun c => (hp c).1
  refine ⟨fun c => joined (m ((c : Thread Cert.Kernel.nD Cert.Kernel.τ).loc Cert.Kernel.main_arg0))
    (m ((c : Thread Cert.Kernel.nD Cert.Kernel.τ).loc Cert.Kernel.main_arg1))
    (m ((c : Thread Cert.Kernel.nD Cert.Kernel.τ).loc Cert.Kernel.main_arg2)), ?_, ?_⟩
  · refine (θ_run Cert.Kernel.defs _ _).mono (fun r hr c => ⟨?_, (hr c).2⟩) (Cert.Kernel.Value.run_blocks m g hH)
    exact (hr c).1.trans (Kernel.final_array m hH c (hp c).1 (hp c).2)
  · refine (θ_run Cert.Reference.defs _ _).mono (fun r hr c => ⟨?_, (hr c).2⟩) (Cert.Reference.Value.run m' g')
    refine (hr c).1.trans ?_
    rw [(ha c).1, (ha c).2.1, (ha c).2.2]
    exact Reference.result_eq (F := Bits) _ _ (hp c).1 (hp c).2

/-- Every claim of the certificate. -/
theorem claim : Cert.Claim :=
  ⟨Cert.Kernel.Gen.facts, Cert.KernelIdeal.Gen.facts, Cert.Reference.Gen.facts, Cert.ReferenceIdeal.Gen.facts,
    Cert.Pre_starts.Gen.facts, Cert.Pre_runs.Gen.facts,
    frame_kernel, frame_kernel_runs, frame_kernelIdeal, frame_kernelIdeal_runs,
    frame_reference, fun m g _ => frame_reference m g trivial,
    frame_referenceIdeal, fun m g _ => frame_referenceIdeal m g trivial,
    trivial, algebraic, bitexact⟩

end Cert.Proof

end
